-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512x1x1 : Shape := ⟨4, ![512, 512, 1, 1]⟩
abbrev S1024x512x1x1 : Shape := ⟨4, ![1024, 512, 1, 1]⟩
abbrev S16x32x4 : Shape := ⟨3, ![16, 32, 4]⟩
abbrev S16x64x4 : Shape := ⟨3, ![16, 64, 4]⟩
abbrev S_ : Shape := ⟨0, ![]⟩
abbrev S512x1024 : Shape := ⟨2, ![512, 1024]⟩
abbrev S512 : Shape := ⟨1, ![512]⟩
abbrev S512x512 : Shape := ⟨2, ![512, 512]⟩
abbrev S1024x512 : Shape := ⟨2, ![1024, 512]⟩
abbrev S1x512 : Shape := ⟨2, ![1, 512]⟩
abbrev S256x512 : Shape := ⟨2, ![256, 512]⟩
abbrev S8x64x512 : Shape := ⟨3, ![8, 64, 512]⟩
abbrev S8x512 : Shape := ⟨2, ![8, 512]⟩
abbrev S8x1x512 : Shape := ⟨3, ![8, 1, 512]⟩
abbrev S8x32x512 : Shape := ⟨3, ![8, 32, 512]⟩

abbrev nBuf : Space → Nat
  | .hbm => 12
  | .vmem => 8
  | .smem => 0
  | _ => 0

abbrev bufTy : (tb : Table) → Fin (tcTables nBuf tb) → BufTy
  | .hbm, ⟨0, _⟩ => ⟨S512x512x1x1, .f32⟩
  | .hbm, ⟨1, _⟩ => ⟨S1024x512x1x1, .f32⟩
  | .hbm, ⟨2, _⟩ => ⟨S16x32x4, .f32⟩
  | .hbm, ⟨3, _⟩ => ⟨S16x64x4, .f32⟩
  | .hbm, ⟨4, _⟩ => ⟨S_, .i1⟩
  | .hbm, ⟨5, _⟩ => ⟨S512x1024, .f32⟩
  | .hbm, ⟨6, _⟩ => ⟨S512, .f32⟩
  | .hbm, ⟨7, _⟩ => ⟨S512x512, .f32⟩
  | .hbm, ⟨8, _⟩ => ⟨S1024x512, .f32⟩
  | .hbm, ⟨9, _⟩ => ⟨S1x512, .f32⟩
  | .hbm, ⟨10, _⟩ => ⟨S512x512, .f32⟩
  | .hbm, ⟨11, _⟩ => ⟨S512x512x1x1, .f32⟩
  | .local _ .vmem, ⟨0, _⟩ => ⟨S256x512, .f32⟩
  | .local _ .vmem, ⟨1, _⟩ => ⟨S256x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S1x512, .f32⟩
  | .local _ .vmem, ⟨6, _⟩ => ⟨S256x512, .f32⟩
  | .local _ .vmem, ⟨7, _⟩ => ⟨S256x512, .f32⟩
  | _, _ => ⟨S512x512x1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S512x512x1x1 : Shape := ⟨4, ![512, 512, 1, 1]⟩
abbrev S1024x512x1x1 : Shape := ⟨4, ![1024, 512, 1, 1]⟩
abbrev S16x32x4 : Shape := ⟨3, ![16, 32, 4]⟩
abbrev S16x64x4 : Shape := ⟨3, ![16, 64, 4]⟩
abbrev S_ : Shape := ⟨0, ![]⟩
abbrev S512x1024 : Shape := ⟨2, ![512, 1024]⟩
abbrev S512 : Shape := ⟨1, ![512]⟩
abbrev S16x32x512 : Shape := ⟨3, ![16, 32, 512]⟩
abbrev S16x64x512 : Shape := ⟨3, ![16, 64, 512]⟩
abbrev S16x32x1x512 : Shape := ⟨4, ![16, 32, 1, 512]⟩
abbrev S16x32x64x512 : Shape := ⟨4, ![16, 32, 64, 512]⟩
abbrev S16x1x64x512 : Shape := ⟨4, ![16, 1, 64, 512]⟩
abbrev S16x32x64x1024 : Shape := ⟨4, ![16, 32, 64, 1024]⟩
abbrev S1x1x1x512 : Shape := ⟨4, ![1, 1, 1, 512]⟩
abbrev S512x512 : Shape := ⟨2, ![512, 512]⟩

abbrev nBuf : Space → Nat
  | .hbm => 22
  | .vmem => 0
  | .smem => 0
  | _ => 0

abbrev bufTy : (tb : Table) → Fin (tcTables nBuf tb) → BufTy
  | .hbm, ⟨0, _⟩ => ⟨S512x512x1x1, .f32⟩
  | .hbm, ⟨1, _⟩ => ⟨S1024x512x1x1, .f32⟩
  | .hbm, ⟨2, _⟩ => ⟨S16x32x4, .f32⟩
  | .hbm, ⟨3, _⟩ => ⟨S16x64x4, .f32⟩
  | .hbm, ⟨4, _⟩ => ⟨S_, .i1⟩
  | .hbm, ⟨5, _⟩ => ⟨S512x1024, .f32⟩
  | .hbm, ⟨6, _⟩ => ⟨S512, .f32⟩
  | .hbm, ⟨7, _⟩ => ⟨S16x32x512, .f32⟩
  | .hbm, ⟨8, _⟩ => ⟨S16x64x512, .f32⟩
  | .hbm, ⟨9, _⟩ => ⟨S16x32x1x512, .f32⟩
  | .hbm, ⟨10, _⟩ => ⟨S16x32x64x512, .f32⟩
  | .hbm, ⟨11, _⟩ => ⟨S16x1x64x512, .f32⟩
  | .hbm, ⟨12, _⟩ => ⟨S16x32x64x512, .f32⟩
  | .hbm, ⟨13, _⟩ => ⟨S16x32x64x1024, .f32⟩
  | .hbm, ⟨14, _⟩ => ⟨S16x32x64x512, .f32⟩
  | .hbm, ⟨15, _⟩ => ⟨S1x1x1x512, .f32⟩
  | .hbm, ⟨16, _⟩ => ⟨S16x32x64x512, .f32⟩
  | .hbm, ⟨17, _⟩ => ⟨S16x32x64x512, .f32⟩
  | .hbm, ⟨18, _⟩ => ⟨S_, .f32⟩
  | .hbm, ⟨19, _⟩ => ⟨S16x32x512, .f32⟩
  | .hbm, ⟨20, _⟩ => ⟨S512x512, .f32⟩
  | .hbm, ⟨21, _⟩ => ⟨S512x512x1x1, .f32⟩
  | _, _ => ⟨S512x512x1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Proof.Values.Relation.lean ====
/-
  The function that both programs compute, over the extended reals, and the one law of the extended reals that it rests
  on: a maximum commutes with adding the same terms to every candidate.

  Persons come in 16 frames of 32, others in 16 frames of 64. Row `r` of the result belongs to person `r`, whose frame is
  `r / 32`; the others of that frame are the rows `r / 32 * 64 + o` for `o < 64`. The weights' columns 0 to 511 multiply
  the person's features, its columns 512 to 1023 the other's.
-/
module

public import Idealize.ShloMosaic.PureOps.Ideal.Laws
public import Idealize.ShloMosaic.Lib.Pointwise

@[expose] public section

noncomputable section

open Idealize.ShloMosaic

namespace Cert.Relation

/-- The word 0xFF800000 (minus infinity in binary32), from which both programs' maxima start, denotes the least extended
    real. -/
theorem negInf : Ideal.ofBits .f32 0xFF800000#32 = (⊥ : EReal) := by
  simp [Ideal.ofBits, Ideal.ieee]

/-- Adding `p` on the left and `b` on the right takes the least element to itself and respects the order, so it passes
    through a maximum that starts from the least element. No finiteness is asked: the sum of the two infinities is the
    least element, whichever side it stands on. -/
theorem fold_max_add {ι : Type} (s : Finset ι) (p b : EReal) (q : ι → EReal) :
    s.fold max ⊥ (fun o => p + q o + b) = p + s.fold max ⊥ q + b := by
  have mono : Monotone fun x : EReal => p + x + b := fun x y h => add_le_add_left (add_le_add_right h p) b
  have start : p + (⊥ : EReal) + b = ⊥ := by rw [EReal.add_bot, EReal.bot_add]
  have h := Finset.fold_hom (op := max) (op' := max) (s := s) (b := (⊥ : EReal)) (f := q)
    (m := fun x : EReal => p + x + b) fun x y => mono.map_max
  rw [start] at h
  exact h

/-- The person's part of the linear layer: row `r` of the persons against the first 512 columns of output row `j`. -/
def personPart (P : FVec Ideal ⟨4, ![512, 512, 1, 1]⟩ .f32) (W : FVec Ideal ⟨2, ![512, 1024]⟩ .f32) (r j : Fin 512) : EReal :=
  ∑ k : Fin 512, P (ix4 r k 0 0) * W (ix2 j ⟨k.val, by omega⟩)

/-- The other's part of the linear layer, for other `o` of the frame of person `r`: its row against the last 512 columns
    of output row `j`. -/
def otherPart (O : FVec Ideal ⟨4, ![1024, 512, 1, 1]⟩ .f32) (W : FVec Ideal ⟨2, ![512, 1024]⟩ .f32) (r j : Fin 512) (o : Fin 64) :
    EReal :=
  ∑ k : Fin 512, O (ix4 ⟨r.val / 32 * 64 + o.val, by omega⟩ k 0 0) * W (ix2 j ⟨512 + k.val, by omega⟩)

/-- The relation layer: for person `r` and output feature `j`, the greatest over the frame's others of the linear layer
    applied to the pair, in the form in which only the other's part stands under the maximum. -/
def value (P : FVec Ideal ⟨4, ![512, 512, 1, 1]⟩ .f32) (O : FVec Ideal ⟨4, ![1024, 512, 1, 1]⟩ .f32)
    (W : FVec Ideal ⟨2, ![512, 1024]⟩ .f32) (b : FVec Ideal ⟨1, ![512]⟩ .f32) (r j : Fin 512) : EReal :=
  personPart P W r j + Finset.univ.fold max ⊥ (otherPart O W r j) + b (ix1 j)

/-- The relation layer as an array of the result's shape. -/
def result (P : FVec Ideal ⟨4, ![512, 512, 1, 1]⟩ .f32) (O : FVec Ideal ⟨4, ![1024, 512, 1, 1]⟩ .f32)
    (W : FVec Ideal ⟨2, ![512, 1024]⟩ .f32) (b : FVec Ideal ⟨1, ![512]⟩ .f32) : FVec Ideal ⟨4, ![512, 512, 1, 1]⟩ .f32 :=
  fun i => value P O W b (i 0) (i 1)

/-- The same value in the order in which the linear layer is applied to each pair: both parts and the bias inside the
    maximum. -/
theorem value_eq_max (P : FVec Ideal ⟨4, ![512, 512, 1, 1]⟩ .f32) (O : FVec Ideal ⟨4, ![1024, 512, 1, 1]⟩ .f32)
    (W : FVec Ideal ⟨2, ![512, 1024]⟩ .f32) (b : FVec Ideal ⟨1, ![512]⟩ .f32) (r j : Fin 512) :
    Finset.univ.fold max ⊥ (fun o => personPart P W r j + otherPart O W r j o + b (ix1 j)) = value P O W b r j :=
  fold_max_add _ _ _ _

end Cert.Relation

end
-- ==== Proof.Values.Reference.lean ====
/-
  What the reference computes: concatenating every person with every other of its frame, applying the linear layer to
  the 1024 features and taking the maximum over the others is `Cert.Relation.result` of the arguments.
-/
module

public import proofs.«01_k».proof.Proof.Gen.ReferenceIdeal.Run
public import proofs.«01_k».proof.Proof.Values.Relation

@[expose] public section

set_option maxRecDepth 16384

noncomputable section

open Idealize.ShloMosaic Idealize.ShloMosaic.TcCoe Idealize.SL.Sem

namespace Cert.ReferenceIdeal.Relation

open Cert.ReferenceIdeal Cert.ReferenceIdeal.Gen Cert.Relation

/-- All pairs of a person and an other of one frame, each as the person's 512 features followed by the other's. -/
def pairs (P : FVec Ideal S512x512x1x1 .f32) (O : FVec Ideal S1024x512x1x1 .f32) : FVec Ideal S16x32x64x1024 .f32 :=
  concatenate S16x32x64x1024 3
    [⟨S16x32x64x512,
      broadcastInDim S16x32x64x512 ![0, 1, 2, 3] bcast_S16x32x1x512_S16x32x64x512_0_1_2_3
        (broadcastInDim S16x32x1x512 ![0, 1, 3] bcast_S16x32x512_S16x32x1x512_0_1_3
          (shapeCast S16x32x512 P shapeCasts_S512x512x1x1_S16x32x512))⟩,
    ⟨S16x32x64x512,
      broadcastInDim S16x32x64x512 ![0, 1, 2, 3] bcast_S16x1x64x512_S16x32x64x512_0_1_2_3
        (broadcastInDim S16x1x64x512 ![0, 2, 3] bcast_S16x64x512_S16x1x64x512_0_2_3
          (shapeCast S16x64x512 O shapeCasts_S1024x512x1x1_S16x64x512))⟩]
    concatenates_S16x32x64x512_S16x32x64x512_S16x32x64x1024_d3

/-- The linear layer applied to every pair. -/
def layer (P : FVec Ideal S512x512x1x1 .f32) (O : FVec Ideal S1024x512x1x1 .f32) (W : FVec Ideal S512x1024 .f32)
    (b : FVec Ideal S512 .f32) : FVec Ideal S16x32x64x512 .f32 :=
  addf (Host.dotGeneral dot_S16x32x64x1024_S512x1024_S16x32x64x512_3_1_012_0_n_n none (pairs P O) W)
    (broadcastInDim S16x32x64x512 ![0, 1, 2, 3] bcast_S1x1x1x512_S16x32x64x512_0_1_2_3
      (broadcastInDim S1x1x1x512 ![3] bcast_S512_S1x1x1x512_3 b))

/-- The maximum over the others, one row per person. -/
def greatest (P : FVec Ideal S512x512x1x1 .f32) (O : FVec Ideal S1024x512x1x1 .f32) (W : FVec Ideal S512x1024 .f32)
    (b : FVec Ideal S512 .f32) : FVec Ideal S512x512x1x1 .f32 :=
  broadcastInDim S512x512x1x1 ![0, 1] bcast_S512x512_S512x512x1x1_0_1
    (shapeCast S512x512
      (Host.reduce FloatOps.maximumf (layer P O W b) (constant S_ FTy.f32 0xFF800000#32)
        reducesTo_S16x32x64x512_S16x32x512_d2 h_S_)
      shapeCasts_S16x32x512_S512x512)

/-- The linear layer at the person of row `r`, other `o` and output feature `j`: the contraction over the 1024 concatenated
    features splits at feature 512. -/
theorem layer_apply (P : FVec Ideal S512x512x1x1 .f32) (O : FVec Ideal S1024x512x1x1 .f32) (W : FVec Ideal S512x1024 .f32)
    (b : FVec Ideal S512 .f32) (r j : Fin 512) (o : Fin 64) :
    layer P O W b (ix4 ⟨r.val / 32, by omega⟩ ⟨r.val % 32, by omega⟩ o j)
      = personPart P W r j + otherPart O W r j o + b (ix1 j) := by
  have row : r.val / 32 * 32 + r.val % 32 = r.val := by omega
  pointwise [layer, pairs]
  unfold personPart otherPart
  simp only [row, Fin.eta]

/-- The reference's result at person `r` and output feature `j` is the relation layer there. -/
theorem greatest_apply (P : FVec Ideal S512x512x1x1 .f32) (O : FVec Ideal S1024x512x1x1 .f32) (W : FVec Ideal S512x1024 .f32)
    (b : FVec Ideal S512 .f32) (r j : Fin 512) (u v : Fin 1) :
    greatest P O W b (ix4 r j u v) = value P O W b r j := by
  rw [← value_eq_max]
  simp only [← layer_apply]
  pointwise [greatest]
  simp only [negInf]

/-- As arrays: the reference computes the relation layer of its arguments. -/
theorem greatest_eq (P : FVec Ideal S512x512x1x1 .f32) (O : FVec Ideal S1024x512x1x1 .f32) (W : FVec Ideal S512x1024 .f32)
    (b : FVec Ideal S512 .f32) : greatest P O W b = result P O W b := by
  funext i
  rw [eq_ix4 i]
  exact greatest_apply P O W b _ _ _ _

/-- Every run of the reference ends with its result array at the relation layer of the arguments, and with the arguments
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v13)
        = result (m ((c : Thread nD τ).loc main_arg0)) (m ((c : Thread nD τ).loc main_arg1))
            (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  exact (θ_run defs _ _).mono (fun _ h c => ⟨(h c).1.trans (greatest_eq _ _ _ _), (h c).2⟩) (Value.run (F := Ideal) m ρ)

end Cert.ReferenceIdeal.Relation

end
-- ==== Proof.Values.Kernel.lean ====
/-
  What the kernel computes: each of the two grid steps takes 256 rows of persons (8 frames) and 512 rows of others (the
  same 8 frames), multiplies the persons by the first half of the weights' columns and the others by the second half,
  takes the maximum of the second product over each frame's 64 others, and writes the sum of the two and of the bias.
  The two blocks fill the result array, which holds `Cert.Relation.value` of the arguments at each row and column.
-/
module

public import proofs.«01_k».proof.Proof.Gen.KernelIdeal.Frame
public import proofs.«01_k».proof.Proof.Values.Relation
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.KernelIdeal.Relation

open Cert.KernelIdeal Cert.KernelIdeal.Gen Cert.Relation

/-- One grid step's block at row `r` and column `j`: the person's product, the greatest of the 64 products of the others
    of the row's frame, and the bias. -/
theorem block_apply (wp wo o : FVec Ideal S512x512 .f32) (p : FVec Ideal S256x512 .f32) (b : FVec Ideal S1x512 .f32)
    (r : Fin 256) (j : Fin 512) :
    k0_pay1 wp wo p o b (ix2 r j)
      = (∑ k : Fin 512, p (ix2 r k) * wp (ix2 j k))
        + Finset.univ.fold max ⊥ (fun x : Fin 64 =>
            ∑ k : Fin 512, o (ix2 ⟨r.val / 32 * 64 + x.val, by omega⟩ k) * wo (ix2 j k))
        + b (ix2 0 j) := by
  pointwise [k0_pay1]
  simp only [negInf]

variable (m : (ℓ : Loc nD τ sig) → Buf (Elt Ideal) ℓ) (c : Dev nD)

/-- The relation layer of core `c`'s arguments, row by column. -/
abbrev valueOf (r j : Fin 512) : EReal :=
  value (m ((c : Thread nD τ).loc main_arg0)) (m ((c : Thread nD τ).loc main_arg1))
    (m ((c : Thread nD τ).loc main_arg5)) (m ((c : Thread nD τ).loc main_arg6)) r j

/-- Where the windows' blocks stand at grid step `t`: the persons, the others and the result at block row `t`, the weights
    and the bias whole. -/
theorem index_at : ∀ t : Fin grid0.N, win0_0.index t = ![t.val, 0] ∧ win0_1.index t = ![t.val, 0]
    ∧ win0_2.index t = ![0, 0] ∧ win0_3.index t = ![0, 0] ∧ win0_4.index t = ![t.val, 0] := by
  decide +kernel

/-- At the region's entry the persons' array is the first argument without its two unit axes. -/
theorem persons_entry (r k : Fin 512) :
    V m c main_v0 (ix2 r k) = m ((c : Thread nD τ).loc main_arg0) (ix4 r k 0 0) := by
  simp only [V, V0, List.flatten_cons, List.flatten_nil, List.append_nil]
  entry_read
  pointwise

/-- At the region's entry the others' array is the second argument without its two unit axes. -/
theorem others_entry (r : Fin 1024) (k : Fin 512) :
    V m c main_v1 (ix2 r k) = m ((c : Thread nD τ).loc main_arg1) (ix4 r k 0 0) := by
  simp only [V, V0, List.flatten_cons, List.flatten_nil, List.append_nil]
  entry_read
  pointwise

/-- At the region's entry the bias's array is the last argument as a single row. -/
theorem bias_entry (j : Fin 512) : V m c main_v2 (ix2 0 j) = m ((c : Thread nD τ).loc main_arg6) (ix1 j) := by
  simp only [V, V0, List.flatten_cons, List.flatten_nil, List.append_nil]
  entry_read
  pointwise

/-- Row `r` of step `t`'s persons is row `256 t + r` of the argument. -/
theorem persons_apply (t : Fin grid0.N) (r : Fin 256) (k R : Fin 512) (hR : R.val = t.val * 256 + r.val) :
    iblk m c 0 t (ix2 r k) = m ((c : Thread nD τ).loc main_arg0) (ix4 R k 0 0) := by
  rw [← persons_entry m c]
  blk_ext [iblk, index_at t]

/-- Row `r` of step `t`'s others is row `512 t + r` of the argument. -/
theorem others_apply (t : Fin grid0.N) (r k : Fin 512) (R : Fin 1024) (hR : R.val = t.val * 512 + r.val) :
    iblk m c 1 t (ix2 r k) = m ((c : Thread nD τ).loc main_arg1) (ix4 R k 0 0) := by
  rw [← others_entry m c]
  blk_ext [iblk, index_at t]

/-- Every step sees the whole bias. -/
theorem bias_apply (t : Fin grid0.N) (j : Fin 512) :
    iblk m c 3 t (ix2 0 j) = m ((c : Thread nD τ).loc main_arg6) (ix1 j) := by
  rw [← bias_entry m c]
  blk_ext [iblk, index_at t]

/-- The first load of the weights is their columns 0 to 511. -/
theorem weights_person_apply (t : Fin grid0.N) (j k : Fin 512) :
    View.ld (iblk m c 2 t) r0_0 (ix2 j k) = m ((c : Thread nD τ).loc main_arg5) (ix2 j ⟨k.val, by omega⟩) := by
  rw [← V_main_arg5 m c]
  unfold View.ld
  blk_ext [iblk, index_at t]
  · show 0 + 1 * j.val = j.val; omega
  · show 0 + 1 * k.val = k.val; omega

/-- The second load of the weights is their columns 512 to 1023. -/
theorem weights_other_apply (t : Fin grid0.N) (j k : Fin 512) :
    View.ld (iblk m c 2 t) r0_1 (ix2 j k) = m ((c : Thread nD τ).loc main_arg5) (ix2 j ⟨512 + k.val, by omega⟩) := by
  rw [← V_main_arg5 m c]
  unfold View.ld
  blk_ext [iblk, index_at t]
  · show 0 + 1 * j.val = j.val; omega
  · show 512 + 1 * k.val = 512 + k.val; omega

/-- Step `t`'s block holds, at row `r` and column `j`, the relation layer of the arguments at row `256 t + r`: that
    row's frame is frame `r / 32` of the step's 8, and the step's others begin at row `512 t`. -/
theorem step_apply (t : Fin grid0.N) (r : Fin 256) (j R : Fin 512) (hR : R.val = t.val * 256 + r.val) :
    k0_pay1 (View.ld (iblk m c 2 t) r0_0) (View.ld (iblk m c 2 t) r0_1) (iblk m c 0 t) (iblk m c 1 t) (iblk m c 3 t) (ix2 r j)
      = valueOf m c R j := by
  rw [block_apply, bias_apply]
  refine congrArg₂ (fun x y : EReal => x + y + _) ?_ ?_
  · exact Finset.sum_congr rfl fun k _ => by rw [persons_apply m c t r k R hR, weights_person_apply]
  · refine congrArg (fun f => Finset.univ.fold max (⊥ : EReal) f) (funext fun o => Finset.sum_congr rfl fun k _ => ?_)
    rw [others_apply m c t _ k ⟨R.val / 32 * 64 + o.val, by omega⟩ (by dsimp only; omega), weights_other_apply]

/-- After the region the result window's array holds the relation layer of the arguments, row by column: row `R` is
    written at step `R / 256`. -/
theorem array_eq : (dats m 0 c).arrAt 4 (cfgs 0).N = fun i : S512x512.Idx => valueOf m c (i 0) (i 1) := by
  refine (dats m 0 c).arrAt_eq_of_covers 4 _ (by decide +kernel) fun t hf y => ?_
  blk_simp
  rw [after0_4]
  frame_out
  obtain ⟨r, j, rfl⟩ : ∃ (r : Fin 256) (j : Fin 512), y = ix2 r j := ⟨y 0, y 1, eq_ix2 y⟩
  have row : ((((cfg0.win 4).blk t).view.emb (ix2 r j)) 0).val = t.val * 256 + r.val := by
    blk_simp [index_at t]
  have col : (((cfg0.win 4).blk t).view.emb (ix2 r j)) 1 = j := Fin.ext (by blk_simp [index_at t])
  refine (step_apply m c t r j _ row).trans (congrArg (valueOf m c _) col.symm)

/-- What the line after the region leaves in the result: the array with two unit axes added. -/
theorem tail_eq : Pipeline.afterTail₀ cfgs (dats m) 0 (V0 m) [hostOps1] c main_v4
    = result (m ((c : Thread nD τ).loc main_arg0)) (m ((c : Thread nD τ).loc main_arg1))
        (m ((c : Thread nD τ).loc main_arg5)) (m ((c : Thread nD τ).loc main_arg6)) := by
  have arr := (Pipeline.withArrays_arr spec0 launch0.win.arr_inj c (V0 m c) (fun w => (dats m 0 c).arrAt w (cfgs 0).N) 4).trans
    (array_eq m c)
  unfold Pipeline.afterTail₀
  simp only [List.flatten_cons, List.flatten_nil, List.append_nil]
  after_results
  refine (congrArg (broadcastInDim S512x512x1x1 ![0, 1] bcast_S512x512_S512x512x1x1_0_1) arr).trans ?_
  funext i
  obtain ⟨r, j, u, v, rfl⟩ : ∃ (r j : Fin 512) (u v : Fin 1), i = ix4 r j u v := ⟨i 0, i 1, i 2, i 3, eq_ix4 i⟩
  pointwise
  rfl

/-- Every run of the kernel ends with its result at the relation layer of the arguments, and with the arguments
    unchanged. -/
theorem run (ρ : Dev nD → PrngReg) :
    θ_run defs (onTc (τ := τ) (main (F := Ideal))) ⟨m, fun _ => 0, ρ⟩ fun r => ∀ c : Dev nD,
      r.2.mem ((c : Thread nD τ).loc main_v4)
        = result (m ((c : Thread nD τ).loc main_arg0)) (m ((c : Thread nD τ).loc main_arg1))
            (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  run_from run_main m ρ
  · exact tail_eq m c
  · exact W_main_arg0 m (dats m) c
  · exact W_main_arg1 m (dats m) c
  · exact W_main_arg2 m (dats m) c
  · exact W_main_arg3 m (dats m) c
  · exact W_main_arg4 m (dats m) c
  · exact W_main_arg6 m (dats m) c

end Cert.KernelIdeal.Relation

end
-- ==== Proof.lean ====
/-
  The certificate: the three programs run to the end from every launch state, leave their arguments unchanged and their
  semaphores at zero; the kernel over binary32 and its reading over the extended reals are the same program; and over the
  extended reals the kernel and the reference, given equal arguments, end with equal results.
-/
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Values.Relation
public import proofs.«01_k».proof.Proof.Values.Reference
public import proofs.«01_k».proof.Proof.Values.Kernel
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference ends with its arguments unchanged and, holding no semaphore, with every semaphore at zero. -/
theorem reference_quiescent : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Relation.run m ρ)

/-- Over the extended reals, from equal arguments, the kernel and the reference both end with the relation layer of those
    arguments. -/
theorem same_result : Cert.algebraic_KernelIdeal_ReferenceIdeal (hKernelIdeal := Cert.KernelIdeal.Gen.facts)
    (hReferenceIdeal := Cert.ReferenceIdeal.Gen.facts) := by
  intro m g m' g' _ same
  refine ⟨_, Cert.KernelIdeal.Relation.run m g,
    (θ_run Cert.ReferenceIdeal.defs _ _).mono (fun _ h c => ⟨(h c).1.trans ?_, (h c).2⟩) (Cert.ReferenceIdeal.Relation.run m' g')⟩
  obtain ⟨persons, others, _, _, _, weights, bias⟩ := same c
  rw [persons, others, weights, bias]

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_quiescent, trivial,
    same_result⟩

end Cert.Proof

end
